-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x4608 : Shape := ⟨3, ![1, 384, 4608]⟩
abbrev S1x384x1 : Shape := ⟨3, ![1, 384, 1]⟩
abbrev S18432x4608 : Shape := ⟨2, ![18432, 4608]⟩
abbrev S18432 : Shape := ⟨1, ![18432]⟩
abbrev S1x384 : Shape := ⟨2, ![1, 384]⟩
abbrev S1x18432 : Shape := ⟨2, ![1, 18432]⟩
abbrev S384x4608 : Shape := ⟨2, ![384, 4608]⟩
abbrev S384x18432 : Shape := ⟨2, ![384, 18432]⟩
abbrev S1x2048 : Shape := ⟨2, ![1, 2048]⟩
abbrev S384x2048 : Shape := ⟨2, ![384, 2048]⟩
abbrev S384x128 : Shape := ⟨2, ![384, 128]⟩
abbrev S3x2048x4608 : Shape := ⟨3, ![3, 2048, 4608]⟩
abbrev S_ : Shape := ⟨0, ![]⟩
abbrev S3 : Shape := ⟨1, ![3]⟩
abbrev S1 : Shape := ⟨1, ![1]⟩
abbrev S1x2048x4608 : Shape := ⟨3, ![1, 2048, 4608]⟩
abbrev S2048x4608 : Shape := ⟨2, ![2048, 4608]⟩
abbrev S128x384 : Shape := ⟨2, ![128, 384]⟩
abbrev S1x384x18432 : Shape := ⟨3, ![1, 384, 18432]⟩

abbrev nBuf : Space → Nat
  | .hbm => 9
  | .vmem => 8
  | .smem => 0
  | _ => 0

abbrev bufTy : (tb : Table) → Fin (tcTables nBuf tb) → BufTy
  | .hbm, ⟨0, _⟩ => ⟨S1x384x4608, .fp8e4m3⟩
  | .hbm, ⟨1, _⟩ => ⟨S1x384x1, .f32⟩
  | .hbm, ⟨2, _⟩ => ⟨S18432x4608, .fp8e4m3⟩
  | .hbm, ⟨3, _⟩ => ⟨S18432, .f32⟩
  | .hbm, ⟨4, _⟩ => ⟨S1x384, .f32⟩
  | .hbm, ⟨5, _⟩ => ⟨S1x18432, .f32⟩
  | .hbm, ⟨6, _⟩ => ⟨S384x4608, .fp8e4m3⟩
  | .hbm, ⟨7, _⟩ => ⟨S384x18432, .bf16⟩
  | .hbm, ⟨8, _⟩ => ⟨S1x384x18432, .bf16⟩
  | .local _ .vmem, ⟨0, _⟩ => ⟨S1x384, .f32⟩
  | .local _ .vmem, ⟨1, _⟩ => ⟨S1x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | .local _ .vmem, ⟨5, _⟩ => ⟨S384x4608, .fp8e4m3⟩
  | .local _ .vmem, ⟨6, _⟩ => ⟨S384x128, .f32⟩
  | .local _ .vmem, ⟨7, _⟩ => ⟨S3x2048x4608, .fp8e4m3⟩
  | _, _ => ⟨S1x384x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_16 : BitVec 32) : Fin 1 → Nat :=
  let c3_i32_17 : BitVec 32 := 3#32
  let v30 : BitVec 32 := Scalar.remsi c0_i32_16 c3_i32_17
  ![v30.toNat]
def k0_off2 (c0_i32_16 : BitVec 32) : Fin 3 → Nat :=
  let c3_i32_17 : BitVec 32 := 3#32
  let v30 : BitVec 32 := Scalar.remsi c0_i32_16 c3_i32_17
  let c0_i32_18 : BitVec 32 := 0#32
  let c0_i32_19 : BitVec 32 := 0#32
  ![v30.toNat, 0, 0]
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c9_i32 : BitVec 32 := 9#32
  let v5 : BitVec 1 := Scalar.cmpi .slt v4 c9_i32
  let v6 : BitVec 32 := Scalar.extui v5
  let c0_i32_1 : BitVec 32 := 0#32
  let v7 : BitVec 1 := Scalar.cmpi .ne v6 c0_i32_1
  v7

def k0_off3 (i : grid0.Coords) : Fin 1 → Nat :=
  let arg0 : BitVec 32 := BitVec.ofNat 32 (i 0).val
  let c3_i32_16 : BitVec 32 := 3#32
  let v30 : BitVec 32 := Scalar.addi arg0 c3_i32_16
  let c1_i32_17 : BitVec 32 := 1#32
  let v31 : BitVec 32 := Scalar.subi v30 c1_i32_17
  let c3_i32_18 : BitVec 32 := 3#32
  let v32 : BitVec 32 := Scalar.remsi v31 c3_i32_18
  ![v32.toNat]
def k0_off4 (i : grid0.Coords) : Fin 3 → Nat :=
  let arg0 : BitVec 32 := BitVec.ofNat 32 (i 0).val
  let c3_i32_16 : BitVec 32 := 3#32
  let v30 : BitVec 32 := Scalar.addi arg0 c3_i32_16
  let c1_i32_17 : BitVec 32 := 1#32
  let v31 : BitVec 32 := Scalar.subi v30 c1_i32_17
  let c3_i32_18 : BitVec 32 := 3#32
  let v32 : BitVec 32 := Scalar.remsi v31 c3_i32_18
  let c0_i32_20 : BitVec 32 := 0#32
  let c0_i32_21 : BitVec 32 := 0#32
  ![v32.toNat, 0, 0]
def k0_off5 (i : grid0.Coords) : Fin 2 → Nat :=
  let arg0 : BitVec 32 := BitVec.ofNat 32 (i 0).val
  let c3_i32_16 : BitVec 32 := 3#32
  let v30 : BitVec 32 := Scalar.addi arg0 c3_i32_16
  let c1_i32_17 : BitVec 32 := 1#32
  let v31 : BitVec 32 := Scalar.subi v30 c1_i32_17
  let c2048_i32_19 : BitVec 32 := 2048#32
  let v33 : BitVec 32 := Scalar.muli v31 c2048_i32_19
  let c0_i32_22 : BitVec 32 := 0#32
  ![v33.toNat, 0]
def k0_off6 (i : grid0.Coords) : Fin 1 → Nat :=
  let arg0 : BitVec 32 := BitVec.ofNat 32 (i 0).val
  let c3_i32_2 : BitVec 32 := 3#32
  let v8 : BitVec 32 := Scalar.remsi arg0 c3_i32_2
  ![v8.toNat]
def k0_off7 (i : grid0.Coords) : Fin 3 → Nat :=
  let arg0 : BitVec 32 := BitVec.ofNat 32 (i 0).val
  let c3_i32_2 : BitVec 32 := 3#32
  let v8 : BitVec 32 := Scalar.remsi arg0 c3_i32_2
  let c0_i32_3 : BitVec 32 := 0#32
  let c0_i32_4 : BitVec 32 := 0#32
  ![v8.toNat, 0, 0]
def k0_off8 (i : grid0.Coords) : Fin 2 → Nat :=
  let arg0 : BitVec 32 := BitVec.ofNat 32 (i 0).val
  let c2048_i32 : BitVec 32 := 2048#32
  let v9 : BitVec 32 := Scalar.muli arg0 c2048_i32
  let c0_i32_5 : BitVec 32 := 0#32
  ![v9.toNat, 0]
def k0_off9 (i : grid0.Coords) : Fin 3 → Nat :=
  let arg0 : BitVec 32 := BitVec.ofNat 32 (i 0).val
  let c3_i32_7 : BitVec 32 := 3#32
  let v16 : BitVec 32 := Scalar.remsi arg0 c3_i32_7
  let v17 : Index := Scalar.indexCast v16
  let c0_8 : Index := 0#32
  let c0_9 : Index := 0#32
  ![v17.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x384x4608 : Shape := ⟨3, ![1, 384, 4608]⟩
abbrev S1x384x1 : Shape := ⟨3, ![1, 384, 1]⟩
abbrev S18432x4608 : Shape := ⟨2, ![18432, 4608]⟩
abbrev S18432 : Shape := ⟨1, ![18432]⟩
abbrev S1x384x18432 : Shape := ⟨3, ![1, 384, 18432]⟩
abbrev S1x1x18432 : Shape := ⟨3, ![1, 1, 18432]⟩

abbrev nBuf : Space → Nat
  | .hbm => 5
  | .vmem => 5
  | .smem => 0
  | _ => 0

abbrev bufTy : (tb : Table) → Fin (tcTables nBuf tb) → BufTy
  | .hbm, ⟨0, _⟩ => ⟨S1x384x4608, .fp8e4m3⟩
  | .hbm, ⟨1, _⟩ => ⟨S1x384x1, .f32⟩
  | .hbm, ⟨2, _⟩ => ⟨S18432x4608, .fp8e4m3⟩
  | .hbm, ⟨3, _⟩ => ⟨S18432, .f32⟩
  | .hbm, ⟨4, _⟩ => ⟨S1x384x18432, .bf16⟩
  | .local _ .vmem, ⟨0, _⟩ => ⟨S1x384x4608, .fp8e4m3⟩
  | .local _ .vmem, ⟨1, _⟩ => ⟨S1x384x1, .f32⟩
  | .local _ .vmem, ⟨2, _⟩ => ⟨S18432x4608, .fp8e4m3⟩
  | .local _ .vmem, ⟨3, _⟩ => ⟨S18432, .f32⟩
  | .local _ .vmem, ⟨4, _⟩ => ⟨S1x384x18432, .bf16⟩
  | _, _ => ⟨S1x384x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x384x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KI.Runs.lean ====
/-
  The frame kit of the idealized kernel with transfers of its own: @main around its one region, the windows' blocks before
  the body, the body's branch conditions in closed form over the grid points, the staging and scratch buffers, and the
  three-slot ring the body streams `w` through (slots, cells, blocks, flights) with the offsets the body computes put in
  closed form. The region-entry contents (`V`), the argument arrays there and the windows' blocks (`iblk`) are the
  generated frame kit's.
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of the arrays' full extents (`View.cover_of_tiled`): the structural recursion goes
-- once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer the host lines after the region do not write, and no window stages, ends as the region found it. -/
theorem W_keep (dats : (p : Fin _) → (c : Dev nD) → Dat τ (Elt F) Unit ℕ (Pipeline.UD sig nD τ) ℕ (cfgs p) c) (c : Dev nD) (b : Ref sig .tc)
    (hb : b ≠ main_v4) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

/-! ## The windows' blocks -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 7 — decided over the grid. -/
theorem hcond0_1 : ∀ t : Fin cfg0.N, cond0_1 (grid0.coords t) ↔ t.val < 7 :=
  (by decide +kernel : ∀ t : Fin grid0.N, cond0_1 (grid0.coords t) ↔ t.val < 7)

/-! ## The kernel body on any staging memrefs: a subtype the run finds -/

/-- Each window's current staging memref at point `t`, spelled as the pipeline passes it (`bodyAt0`), and its wholeness. -/
abbrev ms0_0 (t : Fin cfg0.N) : Memref sig .tc .vmem S1x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x2048 .bf16 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S384x4608 .fp8e4m3 := Memref.whole cc0_scratch0
abbrev scM0_1 : Memref sig .tc .vmem S384x128 .f32 := Memref.whole cc0_scratch1
abbrev scM0_2 : Memref sig .tc .vmem S3x2048x4608 .fp8e4m3 := Memref.whole cc0_scratch2
/-- The operands left in HBM that the body copies into scratch itself, whole. -/
abbrev hbM0_0 : Memref sig .tc .hbm S384x4608 .fp8e4m3 := Memref.whole main_v2
abbrev hbM0_1 : Memref sig .tc .hbm S18432x4608 .fp8e4m3 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 5, SemLoc.dma 6, SemLoc.dma 7, SemLoc.dma 8] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v2, main_arg2}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2) ∗ hbPt0 c hbM0_1 (V m c main_arg2)) := by
  rw [BI.bigSep_eq_bigSepL_of_eq [main_v2, main_arg2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_v2) ∗ hbPt0 c hbM0_1 (V m c main_arg2))) := by
  rw [Pipeline.ΦD_eq, scopedRest0_eq, ownSems00_eq, hbmPts0_eq]; simp only [scM0_0, scM0_1, scM0_2, owns_whole]; try rfl

/-! ## Ring 0 of kernel 0: `main_arg2` streamed through the 3 slots of `cc0_scratch2` on the cells of `cc0_scratch4`, 2 block ahead, in 9 steps -/

instance : NeZero grid0.N := ⟨by rw [N_0]; decide⟩
theorem inb_slot0_0 (s : Fin 3) : ∀ a, (![s.val, 0, 0] : Fin 3 → Nat) a + S1x2048x4608.size a ≤ S3x2048x4608.size a := by
  have := s.isLt; intro a; fin_cases a <;> simp <;> omega
theorem inb_src0_0 (b : Fin 9) : ∀ a, (![2048 * b.val, 0] : Fin 2 → Nat) a + S2048x4608.size a ≤ S18432x4608.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S2048x4608 .fp8e4m3 :=
  (scM0_2.slice (Rect.unit (s := S3x2048x4608) ![s.val, 0, 0] S1x2048x4608.size (inb_slot0_0 s)) (fun _ => rfl)).squeeze S2048x4608 squeezes_S1x2048x4608_S2048x4608
/-- Block `b` of the operand (the block step `b` waits), spelt as the transfers spell their source, at offsets in `b`. -/
def srcB0_0 (b : Fin 9) : Memref sig .tc .hbm S2048x4608 .fp8e4m3 :=
  hbM0_1.slice (Rect.unit (s := S18432x4608) ![2048 * b.val, 0] S2048x4608.size (inb_src0_0 b)) (fun _ => rfl)
/-- Cell `s` of `cc0_scratch4`, spelt as the body spells a cell; its number in the pool. -/
def cellA0_0 (s : Fin 3) : DmaSems sig S_ := (cc0_scratch4.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 6 := by decide
theorem cellR0_0_1 : cellR0_0 1 = SemLoc.dma 7 := by decide
theorem cellR0_0_2 : cellR0_0 2 = SemLoc.dma 8 := by decide

section Ring0_0
variable (c : Dev nD) (W : HbBuf0 (F := F) c hbM0_1)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 9) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 9) : sProp 𝕄 := ((c : Thread nD τ).loc main_arg2) ↦[Finset.univ \ (srcB0_0 b).view.set]{qs0_0 s} W
abbrev wholeP0_0 (s : Fin 3) : sProp 𝕄 := ((c : Thread nD τ).loc main_arg2) ↦[Finset.univ]{qs0_0 s} W
abbrev landed0_0 (s : Fin 3) (b : Fin 9) (f : HbBuf0 (F := F) c (rslot0_0 s)) : HbBuf0 (F := F) c (rslot0_0 s) :=
  (rslot0_0 s).view.writes (Elt F) f [⟨Rect.whole S2048x4608, ReadAs.same.apply ((srcB0_0 b).view.read (Elt F) W)⟩]
abbrev flightP0_0 (s : Fin 3) (b : Fin 9) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 9) (f : HbBuf0 (F := F) c (rslot0_0 s)) : sProp 𝕄 := iprop(flightP0_0 c W s b f ∗ restP0_0 c W s b)
abbrev noHome0_0 (b : Fin 9) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 6) 0 := congrArg (fun x => (semVal ((c : Thread nD τ), x) 0 : sProp 𝕄)) cellR0_0_0
omit [FloatOps F] in
theorem cellP0_0_1 : cellP0_0 (F := F) c 1 = semVal ((c : Thread nD τ), SemLoc.dma 7) 0 := congrArg (fun x => (semVal ((c : Thread nD τ), x) 0 : sProp 𝕄)) cellR0_0_1
omit [FloatOps F] in
theorem cellP0_0_2 : cellP0_0 (F := F) c 2 = semVal ((c : Thread nD τ), SemLoc.dma 8) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x2048x4608.Idx := (Rect.unit (s := S3x2048x4608) ![s.val, 0, 0] S1x2048x4608.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x2048x4608) (0 : Fin 3) 1 (fun s : Fin 3 => (![s.val, 0, 0] : Fin 3 → Nat)) S1x2048x4608.size inb_slot0_0 (fun s => by simp) rfl s s' h
theorem slots0_0_cover : Finset.univ.biUnion slotSet0_0 = Finset.univ :=
  Ring.lead_cover (s := S3x2048x4608) (0 : Fin 3) 1 (fun s : Fin 3 => (![s.val, 0, 0] : Fin 3 → Nat)) S1x2048x4608.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_1)
theorem slotP0_0_eq (s : Fin 3) (f) : slotP0_0 (F := F) c s f = (((c : Thread nD τ).loc cc0_scratch2) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 9) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_1 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ (∃ f, slotP0_0 (F := F) c 1 f) ∗ ∃ f, slotP0_0 (F := F) c 2 f) : sProp 𝕄) := by
  simp only [scM0_2, owns_whole]
  exact Ring.slots3_split (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_2 fullShare d) ∗ (semVal ((c : Thread nD τ), SemLoc.dma 6) 0 ∗ semVal ((c : Thread nD τ), SemLoc.dma 7) 0 ∗ semVal ((c : Thread nD τ), SemLoc.dma 8) 0) ∗ hbPt0 c hbM0_1 (V m c main_arg2))
      ⊢ ringAt0_0 c (V m c main_arg2) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_arg2) 9
      ⊢ iprop((∃ d, owns (c : Thread nD τ) scM0_2 fullShare d) ∗ (semVal ((c : Thread nD τ), SemLoc.dma 6) 0 ∗ semVal ((c : Thread nD τ), SemLoc.dma 7) 0 ∗ semVal ((c : Thread nD τ), SemLoc.dma 8) 0) ∗ hbPt0 c hbM0_1 (V m c main_arg2)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg2)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 9 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 9 ≤ t.val + 2 ∧ t.val < 9 ∧ (t.val + 1) = t.val + 1 := by decide +kernel
set_option synthInstance.maxSize 4096 in
theorem coff0_0_1 : ∀ t : Fin grid0.N, cond0_0 (grid0.coords t) → cond0_1 (grid0.coords t) → k0_off2 0#32 = ![(Ring.sl 3 t.val).val, 0, 0] := by decide +kernel
@[sl_canon] theorem canon0_0_1 (t : Fin grid0.N) (h0 : cond0_0 (grid0.coords t)) (h1 : cond0_1 (grid0.coords t)) :
    (scM0_2.slice (Rect.unit (s := S3x2048x4608) (k0_off2 0#32) S1x2048x4608.size (k0_off2_inb (grid0.coords t) h0 0)) (fun _ => rfl)).squeeze S2048x4608 squeezes_S1x2048x4608_S2048x4608 = rslot0_0 (Ring.sl 3 t.val) :=
  congrArg (fun M : Memref sig .tc .vmem S1x2048x4608 .fp8e4m3 => M.squeeze S2048x4608 squeezes_S1x2048x4608_S2048x4608) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → k0_off1 0#32 = ![(Ring.sl 3 t.val).val] := by decide +kernel
@[sl_canon] theorem canon0_0_2 (t : Fin grid0.N) (h0 : cond0_0 (grid0.coords t)) (h1 : cond0_1 (grid0.coords t)) :
    (cc0_scratch4.slice (Rect.unit (s := S3) (k0_off1 0#32) S1.size (k0_off1_inb (grid0.coords t) h0 0))).squeeze S_ squeezes_S1_S_ = cellA0_0 (Ring.sl 3 t.val) :=
  congrArg (fun A : DmaSems sig S1 => A.squeeze S_ squeezes_S1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0] : Fin 2 → Nat) = ![2048 * (Ring.bk 9 t.val).val, 0] := by decide +kernel
@[sl_canon] theorem canon0_0_3 (t : Fin grid0.N) (h0 : cond0_0 (grid0.coords t)) (h1 : cond0_1 (grid0.coords t)) :
    hbM0_1.slice (Rect.unit (s := S18432x4608) ![0, 0] S2048x4608.size inb_S18432x4608_S2048x4608_0_0) (fun _ => rfl) = srcB0_0 (Ring.bk 9 t.val) :=
  congrArg (fun M : Memref sig .tc .hbm S2048x4608 .fp8e4m3 => M) (Memref.slice_unit_congr _ (coff0_0_3 t h0 h1) _ _ (fun _ => rfl) (fun _ => rfl))
set_option synthInstance.maxSize 4096 in
theorem coff0_0_4 : ∀ t : Fin grid0.N, cond0_0 (grid0.coords t) → cond0_1 (grid0.coords t) → k0_off2 1#32 = ![(Ring.sl 3 (t.val + 1)).val, 0, 0] := by decide +kernel
@[sl_canon] theorem canon0_0_4 (t : Fin grid0.N) (h0 : cond0_0 (grid0.coords t)) (h1 : cond0_1 (grid0.coords t)) :
    (scM0_2.slice (Rect.unit (s := S3x2048x4608) (k0_off2 1#32) S1x2048x4608.size (k0_off2_inb (grid0.coords t) h0 1)) (fun _ => rfl)).squeeze S2048x4608 squeezes_S1x2048x4608_S2048x4608 = rslot0_0 (Ring.sl 3 (t.val + 1)) :=
  congrArg (fun M : Memref sig .tc .vmem S1x2048x4608 .fp8e4m3 => M.squeeze S2048x4608 squeezes_S1x2048x4608_S2048x4608) (Memref.slice_unit_congr _ (coff0_0_4 t h0 h1) _ _ (fun _ => rfl) (fun _ => rfl))
set_option synthInstance.maxSize 4096 in
theorem coff0_0_5 : ∀ t : Fin grid0.N, cond0_0 (grid0.coords t) → cond0_1 (grid0.coords t) → k0_off1 1#32 = ![(Ring.sl 3 (t.val + 1)).val] := by decide +kernel
@[sl_canon] theorem canon0_0_5 (t : Fin grid0.N) (h0 : cond0_0 (grid0.coords t)) (h1 : cond0_1 (grid0.coords t)) :
    (cc0_scratch4.slice (Rect.unit (s := S3) (k0_off1 1#32) S1.size (k0_off1_inb (grid0.coords t) h0 1))).squeeze S_ squeezes_S1_S_ = cellA0_0 (Ring.sl 3 (t.val + 1)) :=
  congrArg (fun A : DmaSems sig S1 => A.squeeze S_ squeezes_S1_S_) (SemArray.slice_unit_congr _ (coff0_0_5 t h0 h1) _ _)
set_option synthInstance.maxSize 4096 in
theorem coff0_0_6 : ∀ t : Fin grid0.N, cond0_0 (grid0.coords t) → cond0_1 (grid0.coords t) → (![2048, 0] : Fin 2 → Nat) = ![2048 * (Ring.bk 9 (t.val + 1)).val, 0] := by decide +kernel
@[sl_canon] theorem canon0_0_6 (t : Fin grid0.N) (h0 : cond0_0 (grid0.coords t)) (h1 : cond0_1 (grid0.coords t)) :
    hbM0_1.slice (Rect.unit (s := S18432x4608) ![2048, 0] S2048x4608.size inb_S18432x4608_S2048x4608_2048_0) (fun _ => rfl) = srcB0_0 (Ring.bk 9 (t.val + 1)) :=
  congrArg (fun M : Memref sig .tc .hbm S2048x4608 .fp8e4m3 => M) (Memref.slice_unit_congr _ (coff0_0_6 t h0 h1) _ _ (fun _ => rfl) (fun _ => rfl))
set_option synthInstance.maxSize 4096 in
theorem coff0_0_7 : ∀ t : Fin grid0.N, k0_off4 (grid0.coords t) = ![(Ring.sl 3 (t.val + 2)).val, 0, 0] := by decide +kernel
@[sl_canon] theorem canon0_0_7 (t : Fin grid0.N) (h1 : cond0_1 (grid0.coords t)) :
    (scM0_2.slice (Rect.unit (s := S3x2048x4608) (k0_off4 (grid0.coords t)) S1x2048x4608.size (k0_off4_inb (grid0.coords t) h1)) (fun _ => rfl)).squeeze S2048x4608 squeezes_S1x2048x4608_S2048x4608 = rslot0_0 (Ring.sl 3 (t.val + 2)) :=
  congrArg (fun M : Memref sig .tc .vmem S1x2048x4608 .fp8e4m3 => M.squeeze S2048x4608 squeezes_S1x2048x4608_S2048x4608) (Memref.slice_unit_congr _ (coff0_0_7 t ) _ _ (fun _ => rfl) (fun _ => rfl))
set_option synthInstance.maxSize 4096 in
theorem coff0_0_8 : ∀ t : Fin grid0.N, k0_off3 (grid0.coords t) = ![(Ring.sl 3 (t.val + 2)).val] := by decide +kernel
@[sl_canon] theorem canon0_0_8 (t : Fin grid0.N) (h1 : cond0_1 (grid0.coords t)) :
    (cc0_scratch4.slice (Rect.unit (s := S3) (k0_off3 (grid0.coords t)) S1.size (k0_off3_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → k0_off5 (grid0.coords t) = ![2048 * (Ring.bk 9 (t.val + 2)).val, 0] := by decide +kernel
@[sl_canon] theorem canon0_0_9 (t : Fin grid0.N) (h0 : cond0_0 (grid0.coords t)) (h1 : cond0_1 (grid0.coords t)) :
    hbM0_1.slice (Rect.unit (s := S18432x4608) (k0_off5 (grid0.coords t)) S2048x4608.size (k0_off5_inb (grid0.coords t) h1)) (fun _ => rfl) = srcB0_0 (Ring.bk 9 (t.val + 2)) :=
  congrArg (fun M : Memref sig .tc .hbm S2048x4608 .fp8e4m3 => M) (Memref.slice_unit_congr _ (coff0_0_9 t h0 h1) _ _ (fun _ => rfl) (fun _ => rfl))
set_option synthInstance.maxSize 4096 in
theorem coff0_0_10 : ∀ t : Fin grid0.N, k0_off7 (grid0.coords t) = ![(Ring.sl 3 t.val).val, 0, 0] := by decide +kernel
@[sl_canon] theorem canon0_0_10 (t : Fin grid0.N) :
    (scM0_2.slice (Rect.unit (s := S3x2048x4608) (k0_off7 (grid0.coords t)) S1x2048x4608.size (k0_off7_inb (grid0.coords t))) (fun _ => rfl)).squeeze S2048x4608 squeezes_S1x2048x4608_S2048x4608 = rslot0_0 (Ring.sl 3 t.val) :=
  congrArg (fun M : Memref sig .tc .vmem S1x2048x4608 .fp8e4m3 => M.squeeze S2048x4608 squeezes_S1x2048x4608_S2048x4608) (Memref.slice_unit_congr _ (coff0_0_10 t ) _ _ (fun _ => rfl) (fun _ => rfl))
set_option synthInstance.maxSize 4096 in
theorem coff0_0_11 : ∀ t : Fin grid0.N, k0_off6 (grid0.coords t) = ![(Ring.sl 3 t.val).val] := by decide +kernel
@[sl_canon] theorem canon0_0_11 (t : Fin grid0.N) :
    (cc0_scratch4.slice (Rect.unit (s := S3) (k0_off6 (grid0.coords t)) S1.size (k0_off6_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → k0_off5 (grid0.coords t) = ![2048 * (Ring.bk 9 (t.val + 2)).val, 0] := by decide +kernel
@[sl_canon] theorem canon0_0_12 (t : Fin grid0.N) (h0 : ¬cond0_0 (grid0.coords t)) (h1 : cond0_1 (grid0.coords t)) :
    hbM0_1.slice (Rect.unit (s := S18432x4608) (k0_off5 (grid0.coords t)) S2048x4608.size (k0_off5_inb (grid0.coords t) h1)) (fun _ => rfl) = srcB0_0 (Ring.bk 9 (t.val + 2)) :=
  congrArg (fun M : Memref sig .tc .hbm S2048x4608 .fp8e4m3 => M) (Memref.slice_unit_congr _ (coff0_0_12 t h0 h1) _ _ (fun _ => rfl) (fun _ => rfl))
set_option synthInstance.maxSize 4096 in
theorem coff0_0_13 : ∀ t : Fin grid0.N, k0_off9 (grid0.coords t) = ![(Ring.sl 3 t.val).val, 0, 0] := by decide +kernel
/-- The ring-memref load's box in the slot's spelling (the block this step waited): the executor's symbolic geometry then sees it inside that slot. -/
instance (priority := high) closedOff0_0_13 (t : Fin grid0.N) : ClosedOff (k0_off9 (grid0.coords t)) := ⟨![(Ring.sl 3 t.val).val, 0, 0], coff0_0_13 t⟩
end Canon0_0

end Cert.KernelIdeal.Hand

end
-- ==== Proof.KI.Loads.lean ====
/-
  What the loads of one grid point read, as values: a ring slot read through the whole ring is the slot's own
  contents with a leading unit axis, a landed slot holds the block of `w` its transfer carried, and a scratch stored
  or copied whole reads back what was put there. The three runs of the body cite these to name what the
  point leaves in its output block and in the two scratches.
-/
module

public import proofs.«01_k».proof.Proof.KI.Runs
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe

variable {F : FTy → Type} [FloatOps F]

theorem casts_wblk : S2048x4608.ShapeCasts S1x2048x4608 := by unfold Shape.ShapeCasts; exact (shapeCasts_S1x2048x4608_S2048x4608).symm

/-- Block `b` of `w`: its 2048 rows from row `2048 * b`. -/
def wblk (c : Dev nD) (W : HbBuf0 (F := F) c hbM0_1) (b : Fin 9) : Vec F S2048x4608 .fp8e4m3 := (srcB0_0 b).view.read (Elt F) W

/-- The output block a point computes, from the activations, the point's block of `w`, the lane-spread row scales and
    the block's column scales. -/
def outv (X : Vec F S384x4608 .fp8e4m3) (w : Vec F S2048x4608 .fp8e4m3) (s : Vec F S384x128 .f32) (ws : Vec F S1x2048 .f32) :
    Vec F S384x2048 .bf16 :=
  k0_pay2 X (shapeCast S1x2048x4608 w casts_wblk) s ws

theorem outv_of {X X' : Vec F S384x4608 .fp8e4m3} {v : Vec F S1x2048x4608 .fp8e4m3} {w : Vec F S2048x4608 .fp8e4m3}
    {s s' : Vec F S384x128 .f32} {ws ws' : Vec F S1x2048 .f32} (hX : X = X') (hw : v = shapeCast S1x2048x4608 w casts_wblk)
    (hs : s = s') (hws : ws = ws') : k0_pay2 X v s ws = outv X' w s' ws' := by
  subst hX hw hs hws; rfl

/-- A slot of the ring, read through the whole ring at the slot's rectangle. -/
theorem slot_read (s : Fin 3) (g : scM0_2.view.ty.Contents (Elt F)) (off : Fin 3 → ℕ) (h : off = ![s.val, 0, 0])
    (inb : ∀ a, off a + S1x2048x4608.size a ≤ S3x2048x4608.size a) :
    View.readAt (Elt F) scM0_2.view (Rect.unit (s := S3x2048x4608) off S1x2048x4608.size inb).toLoadRect g
      = shapeCast S1x2048x4608 ((rslot0_0 s).view.read (Elt F) g) casts_wblk := by
  subst h
  have e := Memref.read_squeeze_slice (Val := Elt F) scM0_2 (Rect.unit (s := S3x2048x4608) ![s.val, 0, 0] S1x2048x4608.size (inb_slot0_0 s)) (fun _ => rfl)
    squeezes_S1x2048x4608_S2048x4608 shapeCasts_S1x2048x4608_S2048x4608 g
  unfold rslot0_0
  rw [e]
  exact (shapeCast_shapeCast ..).symm

/-- After block `b` of `w` landed in slot `s`, the body's load of the slot reads the block. -/
theorem slot_landed (c : Dev nD) (W : HbBuf0 (F := F) c hbM0_1) (t : Fin cfg0.N) (b : Fin 9) (g : HbBuf0 (F := F) c (rslot0_0 (Ring.sl 3 t.val)))
    (inb : ∀ a, k0_off9 (grid0.coords t) a + S1x2048x4608.size a ≤ S3x2048x4608.size a) :
    View.readAt (Elt F) scM0_2.view (Rect.unit (s := S3x2048x4608) (k0_off9 (grid0.coords t)) S1x2048x4608.size inb).toLoadRect
        ((rslot0_0 (Ring.sl 3 t.val)).view.writes (Elt F) g [⟨Rect.whole S2048x4608, ReadAs.same.apply (View.read (Elt F) (srcB0_0 b).view W)⟩])
      = shapeCast S1x2048x4608 (wblk c W b) casts_wblk := by
  refine (slot_read (Ring.sl 3 t.val) _ _ (coff0_0_13 t) inb).trans (congrArg (fun z => shapeCast S1x2048x4608 z casts_wblk) ?_)
  exact View.read_writes_whole _ _ _

end Cert.KernelIdeal.Hand

end
-- ==== Proof.KI.RunA.lean ====
/-
  The run of the whole kernel body in case A of its two conditionals (grid points 0), with what it leaves named: the
  output block and the two carried scratches as values.
-/
module

public import proofs.«01_k».proof.Proof.KI.Loads

@[expose] public section

-- membership in a rectangle of the arrays' full extents (`View.cover_of_tiled`): the structural recursion goes
-- once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple in case A: on whole staging buffers, the inputs' at their contents and the output's at anything,
    the two scratches at anything,
    the body runs to the continuation with the inputs as they were, the output block at `outv` of this point's block
    of `w`, and the two scratches at the activations and the lane-spread scales. -/
theorem kernelRun0_A (c : Dev nD) (t : Fin cfg0.N) (arg1 : Memref sig .tc .vmem S1x384 .f32) (harg1 : arg1.IsWhole) (arg2 : Memref sig .tc .vmem S1x2048 .f32) (harg2 : arg2.IsWhole) (arg5 : Memref sig .tc .vmem S384x2048 .bf16) (harg5 : arg5.IsWhole) (arg6 : Memref sig .tc .vmem S384x4608 .fp8e4m3) (harg6 : arg6.IsWhole) (arg7 : Memref sig .tc .vmem S384x128 .f32) (harg7 : arg7.IsWhole) (hc0 : cond0_0 (grid0.coords t)) (hc1 : cond0_1 (grid0.coords t))
    (x0 : Vec F S1x384 .f32) (x1 : Vec F S1x2048 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 5) 0 ∗ hbPt0 c hbM0_0 fh0 ∗ Ring.free (cellP0_0 c) (slotW0_0 c fh1) (Ring.sl 3 t.val) ∗ Ring.free (cellP0_0 c) (slotW0_0 c fh1) (Ring.sl 3 (t.val + 1)) ∗ Ring.free (cellP0_0 c) (slotW0_0 c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg5 fullShare (outv (hbM0_0.view.read (Elt F) fh0) (wblk c fh1 (Ring.bk 9 t.val)) (k0_pay1 x0) x1) ∗ owns (c : Thread nD τ) arg6 fullShare (hbM0_0.view.read (Elt F) fh0) ∗ owns (c : Thread nD τ) arg7 fullShare (k0_pay1 x0) ∗ semVal ((c : Thread nD τ), SemLoc.dma 5) 0 ∗ hbPt0 c hbM0_0 fh0 ∗ Ring.inflight (flightW0_0 c fh1) (Ring.sl 3 (t.val + 1)) (Ring.bk 9 (t.val + 1)) ∗ Ring.inflight (flightW0_0 c fh1) (Ring.sl 3 (t.val + 2)) (Ring.bk 9 (t.val + 2)) ∗ Ring.free (cellP0_0 c) (slotW0_0 c fh1) (Ring.sl 3 t.val) ∗ (∃ W', owes (c : Thread nD τ) 0 W')) -∗ K ⟨⟩))
          ⊢ wp frame (wpE (defs₀ (F := F)) Variants.none c none) Set.univ (cc0__linear_body (grid0.coords t) arg1 harg1 arg2 harg2 (Memref.whole main_v2) (Memref.isWhole_whole _) (Memref.whole main_arg2) (Memref.isWhole_whole _) arg5 harg5 arg6 harg6 arg7 harg7 scM0_2 (Memref.isWhole_whole _) cc0_scratch3 cc0_scratch4) K := by
    intro W K
    haveI : Fact (cond0_0 (grid0.coords t)) := ⟨hc0⟩
    haveI : Fact (cond0_1 (grid0.coords t)) := ⟨hc1⟩
    simp only [cc0__linear_body_eq_skeleton]; unfold cc0__linear_body_skel
    have hcanon0 := canon0_0_3 t hc0 hc1
    have hcanon1 := canon0_0_6 t hc0 hc1
    unfold owns Ring.free Ring.inflight
    iintro ⟨⟨%f0, %hf0, H0⟩, ⟨%f1, %hf1, H1⟩, ⟨%d2, %f2, -, H2⟩, ⟨%ds0, %fs0, -, HS0⟩, ⟨%ds1, %fs1, -, HS1⟩, Hq0, Hh0, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh1 (Ring.sl 3 t.val) (Ring.bk 9 t.val)).1 $$ Hw0_0_0
    icases Hsp0_0_0 with ⟨Hh0_0_0, Hr0_0_0⟩
    ihave Hsp0_0_1 := (src0_0_split c fh1 (Ring.sl 3 (t.val + 1)) (Ring.bk 9 (t.val + 1))).1 $$ Hw0_0_1
    icases Hsp0_0_1 with ⟨Hh0_0_1, Hr0_0_1⟩
    ihave Hsp0_0_2 := (src0_0_split c fh1 (Ring.sl 3 (t.val + 2)) (Ring.bk 9 (t.val + 2))).1 $$ Hw0_0_2
    icases Hsp0_0_2 with ⟨Hh0_0_2, Hr0_0_2⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      refine (View.read_writes_full _ _ _ _ _).trans ?_
      refine outv_of ?_ ?_ ?_ ?_
      · unfold kernelRun0_A.sl.v15 View.readCov; exact (View.readAt_full _ _ _).trans (View.read_writes_whole _ _ _)
      · unfold kernelRun0_A.sl.v18 kernelRun0_A.sl.dma0_1; exact slot_landed c fh1 t (Ring.bk 9 t.val) _ _
      · unfold kernelRun0_A.sl.v21 kernelRun0_A.sl.HS1_1; exact (View.readCov_full _ _ _ _ _).trans (congrArg k0_pay1 ((View.readAt_full _ _ _).trans (harg1.read_unread _)))
      · exact (View.readAt_full _ _ _).trans (harg2.read_unread _)
    isplitl [HS0]
    · iexists _; isplitr; swap; · iexact HS0
      ipureintro
      exact View.read_writes_whole _ _ _
    isplitl [HS1]
    · iexists _; isplitr; swap; · iexact HS1
      ipureintro
      unfold kernelRun0_A.sl.HS1_1; exact (View.read_writes_full _ _ _ _ _).trans (congrArg k0_pay1 ((View.readAt_full _ _ _).trans (harg1.read_unread _)))
    isplitl [Hq0]; · iexact Hq0
    isplitl [Hh0]; · iexact Hh0
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh1 (Ring.sl 3 t.val) (Ring.bk 9 t.val)).2; isplitl [Hh0_0_0]; · iexact Hh0_0_0
      iexact Hr0_0_0
    iexists _; iexact HW

end Cert.KernelIdeal.Hand

end
-- ==== Proof.KI.RunB.lean ====
/-
  The run of the whole kernel body in case B of its two conditionals (grid points 1 to 6), with what it leaves named: the
  output block and the two carried scratches as values.
-/
module

public import proofs.«01_k».proof.Proof.KI.RunA

@[expose] public section

-- membership in a rectangle of the arrays' full extents (`View.cover_of_tiled`): the structural recursion goes
-- once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple in case B: on whole staging buffers, the inputs' at their contents and the output's at anything,
    the two scratches at the activations `X` and the lane-spread scales `S`,
    the body runs to the continuation with the inputs as they were, the output block at `outv` of this point's block
    of `w`, and the two scratches at the activations and the lane-spread scales. -/
theorem kernelRun0_B (c : Dev nD) (t : Fin cfg0.N) (arg1 : Memref sig .tc .vmem S1x384 .f32) (harg1 : arg1.IsWhole) (arg2 : Memref sig .tc .vmem S1x2048 .f32) (harg2 : arg2.IsWhole) (arg5 : Memref sig .tc .vmem S384x2048 .bf16) (harg5 : arg5.IsWhole) (arg6 : Memref sig .tc .vmem S384x4608 .fp8e4m3) (harg6 : arg6.IsWhole) (arg7 : Memref sig .tc .vmem S384x128 .f32) (harg7 : arg7.IsWhole) (hc0 : ¬cond0_0 (grid0.coords t)) (hc1 : cond0_1 (grid0.coords t))
    (x0 : Vec F S1x384 .f32) (x1 : Vec F S1x2048 .f32) (X : Vec F S384x4608 .fp8e4m3) (S : Vec F S384x128 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ owns (c : Thread nD τ) arg6 fullShare X ∗ owns (c : Thread nD τ) arg7 fullShare S ∗ semVal ((c : Thread nD τ), SemLoc.dma 5) 0 ∗ hbPt0 c hbM0_0 fh0 ∗ Ring.inflight (flightW0_0 c fh1) (Ring.sl 3 t.val) (Ring.bk 9 t.val) ∗ Ring.inflight (flightW0_0 c fh1) (Ring.sl 3 (t.val + 1)) (Ring.bk 9 (t.val + 1)) ∗ Ring.free (cellP0_0 c) (slotW0_0 c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg5 fullShare (outv X (wblk c fh1 (Ring.bk 9 t.val)) S x1) ∗ owns (c : Thread nD τ) arg6 fullShare X ∗ owns (c : Thread nD τ) arg7 fullShare S ∗ semVal ((c : Thread nD τ), SemLoc.dma 5) 0 ∗ hbPt0 c hbM0_0 fh0 ∗ Ring.inflight (flightW0_0 c fh1) (Ring.sl 3 (t.val + 1)) (Ring.bk 9 (t.val + 1)) ∗ Ring.inflight (flightW0_0 c fh1) (Ring.sl 3 (t.val + 2)) (Ring.bk 9 (t.val + 2)) ∗ Ring.free (cellP0_0 c) (slotW0_0 c fh1) (Ring.sl 3 t.val) ∗ (∃ W', owes (c : Thread nD τ) 0 W')) -∗ K ⟨⟩))
          ⊢ wp frame (wpE (defs₀ (F := F)) Variants.none c none) Set.univ (cc0__linear_body (grid0.coords t) arg1 harg1 arg2 harg2 (Memref.whole main_v2) (Memref.isWhole_whole _) (Memref.whole main_arg2) (Memref.isWhole_whole _) arg5 harg5 arg6 harg6 arg7 harg7 scM0_2 (Memref.isWhole_whole _) cc0_scratch3 cc0_scratch4) K := by
    intro W K
    haveI : Fact (¬cond0_0 (grid0.coords t)) := ⟨hc0⟩
    haveI : Fact (cond0_1 (grid0.coords t)) := ⟨hc1⟩
    simp only [cc0__linear_body_eq_skeleton]; unfold cc0__linear_body_skel
    unfold owns Ring.free Ring.inflight
    iintro ⟨⟨%f0, %hf0, H0⟩, ⟨%f1, %hf1, H1⟩, ⟨%d2, %f2, -, H2⟩, ⟨%fs0, %hfs0, HS0⟩, ⟨%fs1, %hfs1, HS1⟩, Hq0, Hh0, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh1 (Ring.sl 3 (t.val + 2)) (Ring.bk 9 (t.val + 2))).1 $$ Hw0_0_2
    icases Hsp0_0_2 with ⟨Hh0_0_2, Hr0_0_2⟩
    obtain rfl := harg1.eq_unread hf0; obtain rfl := harg2.eq_unread hf1
    obtain rfl := harg6.eq_unread hfs0; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      refine (View.read_writes_full _ _ _ _ _).trans ?_
      refine outv_of ?_ ?_ ?_ ?_
      · exact (View.readAt_full _ _ _).trans (harg6.read_unread _)
      · exact slot_landed c fh1 t (Ring.bk 9 t.val) _ _
      · exact (View.readAt_full _ _ _).trans (harg7.read_unread _)
      · exact (View.readAt_full _ _ _).trans (harg2.read_unread _)
    isplitl [HS0]
    · iexists _; isplitr; swap; · iexact HS0
      ipureintro
      exact harg6.read_unread _
    isplitl [HS1]
    · iexists _; isplitr; swap; · iexact HS1
      ipureintro
      exact harg7.read_unread _
    isplitl [Hq0]; · iexact Hq0
    isplitl [Hh0]; · iexact Hh0
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh1 (Ring.sl 3 t.val) (Ring.bk 9 t.val)).2; isplitl [Hf0_0_0_src]; · iexact Hf0_0_0_src
      iexact Hrf0_0_0
    iexists _; iexact HW

end Cert.KernelIdeal.Hand

end
-- ==== Proof.KI.RunC.lean ====
/-
  The run of the whole kernel body in case C of its two conditionals (grid points 7 and 8), with what it leaves named: the
  output block and the two carried scratches as values.
-/
module

public import proofs.«01_k».proof.Proof.KI.RunB

@[expose] public section

-- membership in a rectangle of the arrays' full extents (`View.cover_of_tiled`): the structural recursion goes
-- once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple in case C: on whole staging buffers, the inputs' at their contents and the output's at anything,
    the two scratches at the activations `X` and the lane-spread scales `S`,
    the body runs to the continuation with the inputs as they were, the output block at `outv` of this point's block
    of `w`, and the two scratches at the activations and the lane-spread scales. -/
theorem kernelRun0_C (c : Dev nD) (t : Fin cfg0.N) (arg1 : Memref sig .tc .vmem S1x384 .f32) (harg1 : arg1.IsWhole) (arg2 : Memref sig .tc .vmem S1x2048 .f32) (harg2 : arg2.IsWhole) (arg5 : Memref sig .tc .vmem S384x2048 .bf16) (harg5 : arg5.IsWhole) (arg6 : Memref sig .tc .vmem S384x4608 .fp8e4m3) (harg6 : arg6.IsWhole) (arg7 : Memref sig .tc .vmem S384x128 .f32) (harg7 : arg7.IsWhole) (hc0 : ¬cond0_0 (grid0.coords t)) (hc1 : ¬cond0_1 (grid0.coords t))
    (x0 : Vec F S1x384 .f32) (x1 : Vec F S1x2048 .f32) (X : Vec F S384x4608 .fp8e4m3) (S : Vec F S384x128 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ owns (c : Thread nD τ) arg6 fullShare X ∗ owns (c : Thread nD τ) arg7 fullShare S ∗ semVal ((c : Thread nD τ), SemLoc.dma 5) 0 ∗ hbPt0 c hbM0_0 fh0 ∗ Ring.inflight (flightW0_0 c fh1) (Ring.sl 3 t.val) (Ring.bk 9 t.val) ∗ Ring.slotAt 2 (cellP0_0 c) (slotW0_0 c fh1) (flightW0_0 c fh1) t.val 1 ∗ Ring.free (cellP0_0 c) (slotW0_0 c fh1) (Ring.sl 3 (t.val + 2)) ∗ owes (c : Thread nD τ) 0 W
            ∗ (iprop(owns (c : Thread nD τ) arg1 fullShare x0 ∗ owns (c : Thread nD τ) arg2 fullShare x1 ∗ owns (c : Thread nD τ) arg5 fullShare (outv X (wblk c fh1 (Ring.bk 9 t.val)) S x1) ∗ owns (c : Thread nD τ) arg6 fullShare X ∗ owns (c : Thread nD τ) arg7 fullShare S ∗ semVal ((c : Thread nD τ), SemLoc.dma 5) 0 ∗ hbPt0 c hbM0_0 fh0 ∗ Ring.slotAt 2 (cellP0_0 c) (slotW0_0 c fh1) (flightW0_0 c fh1) t.val 1 ∗ Ring.free (cellP0_0 c) (slotW0_0 c fh1) (Ring.sl 3 (t.val + 2)) ∗ Ring.free (cellP0_0 c) (slotW0_0 c fh1) (Ring.sl 3 t.val) ∗ (∃ W', owes (c : Thread nD τ) 0 W')) -∗ K ⟨⟩))
          ⊢ wp frame (wpE (defs₀ (F := F)) Variants.none c none) Set.univ (cc0__linear_body (grid0.coords t) arg1 harg1 arg2 harg2 (Memref.whole main_v2) (Memref.isWhole_whole _) (Memref.whole main_arg2) (Memref.isWhole_whole _) arg5 harg5 arg6 harg6 arg7 harg7 scM0_2 (Memref.isWhole_whole _) cc0_scratch3 cc0_scratch4) K := by
    intro W K
    haveI : Fact (¬cond0_0 (grid0.coords t)) := ⟨hc0⟩
    haveI : Fact (¬cond0_1 (grid0.coords t)) := ⟨hc1⟩
    simp only [cc0__linear_body_eq_skeleton]; unfold cc0__linear_body_skel
    unfold owns Ring.free Ring.inflight
    iintro ⟨⟨%f0, %hf0, H0⟩, ⟨%f1, %hf1, H1⟩, ⟨%d2, %f2, -, H2⟩, ⟨%fs0, %hfs0, HS0⟩, ⟨%fs1, %hfs1, HS1⟩, Hq0, Hh0, ⟨%ff0_0_0, Hf0_0_0, Hrf0_0_0⟩, Hro0_0_1, ⟨Hc0_0_2, ⟨%fs0_0_2, Hs0_0_2, Hw0_0_2⟩⟩, HW, Hk⟩
    obtain rfl := harg1.eq_unread hf0; obtain rfl := harg2.eq_unread hf1
    obtain rfl := harg6.eq_unread hfs0; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      refine (View.read_writes_full _ _ _ _ _).trans ?_
      refine outv_of ?_ ?_ ?_ ?_
      · exact (View.readAt_full _ _ _).trans (harg6.read_unread _)
      · exact slot_landed c fh1 t (Ring.bk 9 t.val) _ _
      · exact (View.readAt_full _ _ _).trans (harg7.read_unread _)
      · exact (View.readAt_full _ _ _).trans (harg2.read_unread _)
    isplitl [HS0]
    · iexists _; isplitr; swap; · iexact HS0
      ipureintro
      exact harg6.read_unread _
    isplitl [HS1]
    · iexists _; isplitr; swap; · iexact HS1
      ipureintro
      exact harg7.read_unread _
    isplitl [Hq0]; · iexact Hq0
    isplitl [Hh0]; · iexact Hh0
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh1 (Ring.sl 3 t.val) (Ring.bk 9 t.val)).2; isplitl [Hf0_0_0_src]; · iexact Hf0_0_0_src
      iexact Hrf0_0_0
    iexists _; iexact HW

end Cert.KernelIdeal.Hand

end
-- ==== Proof.KI.Frame.lean ====
/-
  The run of the idealized kernel's launch: the proof data of its one pipeline with the output block of each grid point
  named, the body at every point (three cases of its conditionals), and the run with every array's final contents
  and every semaphore at zero. Between two points the ring invariant stands beside the two carried scratches: before point 0
  they hold anything, from point 1 on the activations and the lane-spread row scales.
-/
module

public import proofs.«01_k».proof.Proof.KI.RunC
public import Idealize.ShloMosaic.Lib.Claim

@[expose] public section

-- membership in a rectangle of the arrays' full extents (`View.cover_of_tiled`): the structural recursion goes
-- once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The row scales of the launch, as the first point finds them staged. -/
def rowScale (c : Dev nD) : Vec F S1x384 .f32 := iblk m c 0 (⟨0, by decide⟩ : Fin cfg0.N)

/-- The row scales' window is the same block at every point. -/
theorem rowScale_eq (c : Dev nD) (t : Fin cfg0.N) : iblk m c 0 t = rowScale m c := rfl

/-- The activations, as the body copies them whole into its scratch. -/
def acts (c : Dev nD) : Vec F S384x4608 .fp8e4m3 := hbM0_0.view.read (Elt F) (V m c main_v2)

/-- The two carried scratches before point `k`: anything before the first point, then the activations and the lane-spread
    row scales. -/
def carried (c : Dev nD) (k : ℕ) : sProp 𝕄 :=
  if k = 0 then iprop((∃ d, owns (c : Thread nD τ) scM0_0 fullShare d) ∗ (∃ d, owns (c : Thread nD τ) scM0_1 fullShare d))
  else iprop(owns (c : Thread nD τ) scM0_0 fullShare (acts m c) ∗ owns (c : Thread nD τ) scM0_1 fullShare (k0_pay1 (rowScale m c)))

/-- The region invariant before point `k`: the carried scratches, the generator register at some state, the activation copy's cell at zero,
    the activations' operand whole, and the ring before point `k`. -/
def PhiR (c : Dev nD) (k : ℕ) : sProp 𝕄 := iprop(carried m c k ∗ (∃ r, prngReg c r) ∗ semVal ((c : Thread nD τ), SemLoc.dma 5) 0 ∗ hbPt0 c hbM0_0 (V m c main_v2) ∗ ringAt0_0 c (V m c main_arg2) k)

/-- The output block of point `t`. -/
def outAt (c : Dev nD) (t : Fin cfg0.N) : Vec F S384x2048 .bf16 :=
  outv (acts m c) (wblk c (V m c main_arg2) (Ring.bk 9 t.val)) (k0_pay1 (rowScale m c)) (iblk m c 1 t)

/-- The proof data of the one pipeline on core `c`: the arrays as the region finds them (`V`); after the body at
    point `t` each input's buffer at its block and the output's at `outAt`; the invariant is `PhiR`;
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, h⟩ => outAt m c t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1200000 in
/-- The body at any point: the point's case is read off the closed conditions, the invariant is opened to the ring pieces
    the case's run takes and reassembled from what the run hands back, and the core's `owes` goes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 carried outAt
  have hgN : grid0.N = 9 := N_0
  have hN : t.val < 9 := lt_of_lt_of_eq t.isLt (show cfg0.N = 9 from N_0)
  by_cases h0 : t.val % 9 = 0
  · by_cases h1 : t.val < 7
    · have hr0 := rstep0_0_A t ((hcond0_0 t).mpr h0) ((hcond0_1 t).mpr h1)
      obtain ⟨hK00, hK10⟩ := hr0
      simp only [if_pos hK00, if_neg (show ¬t.val + 1 = 0 by omega)]
      rw [Ring.At₀_eq3' _ _ _ t.val hK00 (by decide : 3 ≤ 9), Ring.At3_one' _ _ _ _ t.val hK00 (by decide : 3 ≤ 9)]
      iintro ⟨⟨⟨HS0, HS1⟩, Hg, Hq0, Hh0, ⟨-, Hfr0_0_0, Hfr0_0_1, Hfr0_0_2⟩⟩, ⟨%W, -, HW⟩, ⟨%d0, H0⟩, ⟨%d1, H1⟩, ⟨%d2, H2⟩⟩
      iapply ((kernelRun0_A c t _ _ _ _ _ _ _ _ _ _ ((hcond0_0 t).mpr h0) ((hcond0_1 t).mpr h1) (iblk m c 0 t) (iblk m c 1 t) (V m c main_v2) (V m c main_arg2)) W _)
      isplitl [H0]; · iexact H0
      isplitl [H1]; · iexact H1
      isplitl [H2]; · iexists _; iexact H2
      isplitl [HS0]; · iexact HS0
      isplitl [HS1]; · iexact HS1
      isplitl [Hq0]; · iexact Hq0
      isplitl [Hh0]; · iexact Hh0
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, HS0, HS1, Hq0, Hh0, Hfa0_0', Hfb0_0', Hfc0_0', ⟨%W', HW'⟩⟩
      isplitl [HS0 HS1 Hg Hq0 Hh0 Hfa0_0' Hfb0_0' Hfc0_0']
      · isplitl [HS0 HS1]
        · isplitl [HS0]; · iexact HS0
          iexact HS1
        isplitl [Hg]; · iexact Hg
        isplitl [Hq0]; · iexact Hq0
        isplitl [Hh0]; · iexact Hh0
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      iexact H2
    · exfalso; omega
  · by_cases h1 : t.val < 7
    · have hr0 := rstep0_0_B t (fun h => h0 ((hcond0_0 t).mp h)) ((hcond0_1 t).mpr h1)
      obtain ⟨hK10, hKB0, hKs0⟩ := hr0
      simp only [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      iintro ⟨⟨⟨HS0, HS1⟩, Hg, Hq0, Hh0, ⟨-, Hfr0_0_0, Hfr0_0_1, Hfr0_0_2⟩⟩, ⟨%W, -, HW⟩, ⟨%d0, H0⟩, ⟨%d1, H1⟩, ⟨%d2, H2⟩⟩
      iapply ((kernelRun0_B c t _ _ _ _ _ _ _ _ _ _ (fun h => h0 ((hcond0_0 t).mp h)) ((hcond0_1 t).mpr h1) (iblk m c 0 t) (iblk m c 1 t) (acts m c) (k0_pay1 (rowScale m c)) (V m c main_v2) (V m c main_arg2)) W _)
      isplitl [H0]; · iexact H0
      isplitl [H1]; · iexact H1
      isplitl [H2]; · iexists _; iexact H2
      isplitl [HS0]; · iexact HS0
      isplitl [HS1]; · iexact HS1
      isplitl [Hq0]; · iexact Hq0
      isplitl [Hh0]; · iexact Hh0
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, HS0, HS1, Hq0, Hh0, Hfa0_0', Hfb0_0', Hfc0_0', ⟨%W', HW'⟩⟩
      isplitl [HS0 HS1 Hg Hq0 Hh0 Hfa0_0' Hfb0_0' Hfc0_0']
      · isplitl [HS0 HS1]
        · isplitl [HS0]; · iexact HS0
          iexact HS1
        isplitl [Hg]; · iexact Hg
        isplitl [Hq0]; · iexact Hq0
        isplitl [Hh0]; · iexact Hh0
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      iexact H2
    · have hr0 := rstep0_0_C t (fun h => h0 ((hcond0_0 t).mp h)) (fun h => h1 ((hcond0_1 t).mp h))
      obtain ⟨hK10, hKB0, hKlt0, hKs0⟩ := hr0
      simp only [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      iintro ⟨⟨⟨HS0, HS1⟩, Hg, Hq0, Hh0, ⟨-, Hfr0_0_0, Hfr0_0_1, Hfr0_0_2⟩⟩, ⟨%W, -, HW⟩, ⟨%d0, H0⟩, ⟨%d1, H1⟩, ⟨%d2, H2⟩⟩
      iapply ((kernelRun0_C c t _ _ _ _ _ _ _ _ _ _ (fun h => h0 ((hcond0_0 t).mp h)) (fun h => h1 ((hcond0_1 t).mp h)) (iblk m c 0 t) (iblk m c 1 t) (acts m c) (k0_pay1 (rowScale m c)) (V m c main_v2) (V m c main_arg2)) W _)
      isplitl [H0]; · iexact H0
      isplitl [H1]; · iexact H1
      isplitl [H2]; · iexists _; iexact H2
      isplitl [HS0]; · iexact HS0
      isplitl [HS1]; · iexact HS1
      isplitl [Hq0]; · iexact Hq0
      isplitl [Hh0]; · iexact Hh0
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, HS0, HS1, Hq0, Hh0, Hfa0_0', Hfb0_0', Hfc0_0', ⟨%W', HW'⟩⟩
      isplitl [HS0 HS1 Hg Hq0 Hh0 Hfa0_0' Hfb0_0' Hfc0_0']
      · isplitl [HS0 HS1]
        · isplitl [HS0]; · iexact HS0
          iexact HS1
        isplitl [Hg]; · iexact Hg
        isplitl [Hq0]; · iexact Hq0
        isplitl [Hh0]; · iexact Hh0
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR carried
  rw [if_pos rfl]
  iintro ⟨⟨HS0, HS1, HR0_0⟩, Hg, ⟨Hq0, Hq1, Hq2, Hq3⟩, ⟨Hh0, Hh1⟩⟩
  isplitl [HS0 HS1]
  · isplitl [HS0]; · iexact HS0
    iexact HS1
  isplitl [Hg]; · iexact Hg
  isplitl [Hq0]; · iexact Hq0
  isplitl [Hh0]; · iexact Hh0
  iapply (ring0_0_in (F := F) m c)
  isplitl [HR0_0]; · iexact HR0_0
  isplitl [Hq1 Hq2 Hq3]
  · isplitl [Hq1]; · iexact Hq1
    isplitl [Hq2]; · iexact Hq2
    iexact Hq3
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR carried
  rw [show grid0.N = 9 by rw [N_0], if_neg (by decide)]
  iintro ⟨⟨HS0, HS1⟩, Hg, Hq0, Hh0, HR0_0⟩
  ihave HX0_0 := (ring0_0_out (F := F) m c) $$ HR0_0
  icases HX0_0 with ⟨HR0_0, ⟨Hq1, Hq2, Hq3⟩, Hh1⟩
  isplitl [HS0 HS1 HR0_0]
  · isplitl [HS0]; · iexists _; iexact HS0
    isplitl [HS1]; · iexists _; iexact HS1
    iexact HR0_0
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-! ## The run and the frame -/

-- the launch theorem's implicit arguments are found by unifying its conclusion with this one, which takes unfolding plain
-- definitions in a metavariable's type
set_option backward.isDefEq.respectTransparency.types false in
set_option maxHeartbeats 800000 in
/-- The launch: at the compiled mesh, for any values, from any memory with zero counters, every weakly fair execution of @main on the
    TensorCores terminates, every final state has the pipeline's arrays at what the proof data says and every other unscoped buffer at
    what the host lines after the region leave, and every semaphore counter of the machine is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

end Cert.KernelIdeal.Hand

end
-- ==== Proof.KI.Value.lean ====
/-
  The value of the idealized kernel's run, at any float semantics: the output array block by block (`G`), the result
  buffer as its reshape, what the host lines before the launch hand the windows, the run with the result named, and the
  frame.
-/
module

public import proofs.«01_k».proof.Proof.KI.Frame
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-! ## The windows' blocks, by index -/

/-- The block indices of the three windows at point `t`: the row scales' is fixed, the other two move along the columns. -/
theorem idx_facts : ∀ t : Fin cfg0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val) :=
  (by decide +kernel : ∀ t : Fin grid0.N, _)

theorem lt9 (t : Fin cfg0.N) : t.val < 9 := lt_of_lt_of_eq t.isLt (show cfg0.N = 9 from N_0)

/-- Column `j` of block `t`, in the whole array's columns. -/
def col (t : Fin cfg0.N) (j : Fin 2048) : Fin 18432 := ⟨t.val * 2048 + j.val, by have := lt9 t; omega⟩
/-- The block a column of the whole array lies in, and its column there. -/
def blkOf (n : Fin 18432) : Fin cfg0.N := ⟨n.val / 2048, by rw [show cfg0.N = 9 from N_0]; omega⟩
def colIn (n : Fin 18432) : Fin 2048 := ⟨n.val % 2048, by omega⟩
theorem col_split (n : Fin 18432) : col (blkOf n) (colIn n) = n := Fin.ext (by show n.val / 2048 * 2048 + n.val % 2048 = n.val; omega)
theorem blkOf_col (t : Fin cfg0.N) (j : Fin 2048) : blkOf (col t j) = t := Fin.ext (by show (t.val * 2048 + j.val) / 2048 = t.val; omega)
theorem colIn_col (t : Fin cfg0.N) (j : Fin 2048) : colIn (col t j) = j := Fin.ext (by show (t.val * 2048 + j.val) % 2048 = j.val; omega)

theorem emb0 (t : Fin cfg0.N) (j : S1x384.Idx) : ((cfg0.win 0).blk t).view.emb j = j := by
  obtain ⟨⟨e0, e1⟩, -, -⟩ := idx_facts t
  funext a; apply Fin.ext
  match a with
  | ⟨0, _⟩ => show win0_0.index t (0 : Fin 2) * 1 + 1 * (j 0).val = (j 0).val; omega
  | ⟨1, _⟩ => show win0_0.index t (1 : Fin 2) * 384 + 1 * (j 1).val = (j 1).val; omega
theorem emb1 (t : Fin cfg0.N) (r : Fin 1) (q : Fin 2048) : ((cfg0.win 1).blk t).view.emb (ix2 r q : S1x2048.Idx) = (ix2 r (col t q) : S1x18432.Idx) := by
  obtain ⟨-, ⟨e0, e1⟩, -⟩ := idx_facts t
  funext a; apply Fin.ext
  match a with
  | ⟨0, _⟩ => show win0_1.index t (0 : Fin 2) * 1 + 1 * r.val = r.val; omega
  | ⟨1, _⟩ => show win0_1.index t (1 : Fin 2) * 2048 + 1 * q.val = t.val * 2048 + q.val; rw [e1]; omega
theorem emb2 (t : Fin cfg0.N) (r : Fin 384) (q : Fin 2048) : ((cfg0.win 2).blk t).view.emb (ix2 r q : S384x2048.Idx) = (ix2 r (col t q) : S384x18432.Idx) := by
  obtain ⟨-, -, ⟨e0, e1⟩⟩ := idx_facts t
  funext a; apply Fin.ext
  match a with
  | ⟨0, _⟩ => show win0_2.index t (0 : Fin 2) * 384 + 1 * r.val = r.val; omega
  | ⟨1, _⟩ => show win0_2.index t (1 : Fin 2) * 2048 + 1 * q.val = t.val * 2048 + q.val; rw [e1]; omega

/-- The row scales staged are their whole array. -/
theorem iblk0_eq (c : Dev nD) (t : Fin cfg0.N) : iblk m c 0 t = V m c main_v0 := by
  funext j; show V m c main_v0 (((cfg0.win 0).blk t).view.emb j) = V m c main_v0 j; rw [emb0]
theorem rowScale_val (c : Dev nD) : rowScale m c = V m c main_v0 := iblk0_eq m c _
/-- The column scales staged at point `t` are the array's columns of block `t`. -/
theorem colScale_apply (c : Dev nD) (t : Fin cfg0.N) (r : Fin 1) (q : Fin 2048) :
    (iblk m c 1 t : Vec F S1x2048 .f32) (ix2 r q) = (V m c main_v1 : Vec F S1x18432 .f32) (ix2 r (col t q)) :=
  congrArg (V m c main_v1) (emb1 t r q)
/-- The activations copied are their whole array. -/
theorem acts_val (c : Dev nD) : acts m c = V m c main_v2 := rfl
/-- Block `b` of `w` at a row and a column of the block. -/
theorem wblk_apply (c : Dev nD) (W : Vec F S18432x4608 .fp8e4m3) (t : Fin cfg0.N) (r : Fin 2048) (k : Fin 4608) :
    wblk (F := F) c W (Ring.bk 9 t.val) (ix2 r k) = W (ix2 (col t r) k) := by
  show W ((srcB0_0 (Ring.bk 9 t.val)).view.emb (ix2 r k)) = _
  refine congrArg W ?_
  funext a; apply Fin.ext
  have hb : (Ring.bk 9 t.val).val = t.val := Nat.mod_eq_of_lt (lt9 t)
  match a with
  | ⟨0, _⟩ => show 2048 * (Ring.bk 9 t.val).val + 1 * r.val = t.val * 2048 + r.val; rw [hb]; omega
  | ⟨1, _⟩ => show 0 + 1 * k.val = k.val; omega

/-! ## The output array -/

/-- The output array at a row and a column: the block of that column at the column within the block. -/
def Gat (c : Dev nD) (r : Fin 384) (n : Fin 18432) : Elt F .bf16 := outAt m c (blkOf n) (ix2 r (colIn n))
theorem Gat_col (c : Dev nD) (t : Fin cfg0.N) (r : Fin 384) (q : Fin 2048) : Gat m c r (col t q) = outAt m c t (ix2 r q) := by
  unfold Gat; rw [blkOf_col, colIn_col]
/-- What the output array ends holding. -/
def G (c : Dev nD) : Vec F S384x18432 .bf16 := fun i => Gat m c (i 0) (i 1)

theorem block2 (c : Dev nD) (t : Fin cfg0.N) (j : S384x2048.Idx) : outAt m c t j = G m c (((cfg0.win 2).blk t).view.emb j) := by
  obtain ⟨r, q, rfl⟩ : ∃ (r : Fin 384) (q : Fin 2048), j = ix2 r q := ⟨j 0, j 1, eq_ix2 j⟩
  exact (Gat_col m c t r q).symm.trans (congrArg (G m c) (emb2 t r q)).symm

theorem flushed2 (c : Dev nD) (t : Fin cfg0.N) :
    (dats m 0 c).flushed 2 t = ((cfg0.win 2).blk t).view.read (Elt F) (G m c) := by
  show (cfg0.win 2).cut (grid0.coords t) ((dats m 0 c).after 2 t) = _
  rw [after0_2]
  exact funext fun j => block2 m c t j

theorem mem_blk2 (t : Fin cfg0.N) (r : Fin 384) (q : Fin 2048) : (ix2 r (col t q) : S384x18432.Idx) ∈ ((cfg0.win 2).blk t).view.set :=
  emb2 t r q ▸ ((cfg0.win 2).blk t).view.emb_mem_set (ix2 r q : S384x2048.Idx)

theorem covered2 (i : S384x18432.Idx) : ∃ t : Fin cfg0.N, (cfg0.win 2).flush t = true ∧ i ∈ ((cfg0.win 2).blk t).view.set := by
  obtain ⟨r, n, rfl⟩ : ∃ (r : Fin 384) (n : Fin 18432), i = ix2 r n := ⟨i 0, i 1, eq_ix2 i⟩
  exact ⟨blkOf n, flush0_2 _, by have h := mem_blk2 (blkOf n) r (colIn n); rwa [col_split] at h⟩

/-- The output array after the run. -/
theorem final2 (c : Dev nD) : (dats m 0 c).arrAt 2 cfg0.N = G m c :=
  (dats m 0 c).arrAt_eq_of_cover 2 (G m c) (fun t _ => flushed2 m c t) covered2

/-! ## The host lines -/

theorem V_main_v0 (c : Dev nD) : V m c main_v0 = shapeCast S1x384 (m ((c : Thread nD τ).loc main_arg1)) shapeCasts_S1x384x1_S1x384 := by
  show StableHlo.after hostOps0 (fun b => m (c, b)) (Proc.devRef .tc main_v0) = _
  after_results
  rfl
theorem V_main_v1 (c : Dev nD) : V m c main_v1 = shapeCast S1x18432 (m ((c : Thread nD τ).loc main_arg3)) shapeCasts_S18432_S1x18432 := by
  show StableHlo.after hostOps0 (fun b => m (c, b)) (Proc.devRef .tc main_v1) = _
  after_results
  rfl
theorem V_main_v2 (c : Dev nD) : V m c main_v2 = shapeCast S384x4608 (m ((c : Thread nD τ).loc main_arg0)) shapeCasts_S1x384x4608_S384x4608 := by
  show StableHlo.after hostOps0 (fun b => m (c, b)) (Proc.devRef .tc main_v2) = _
  after_results
  rfl

/-- The result buffer after the last host line: the output array reshaped. -/
theorem W_main_v4 (c : Dev nD) : Pipeline.afterTail₀ cfgs (dats m) 0 (V0 m) [hostOps1] c main_v4
    = shapeCast S1x384x18432 (G m c) shapeCasts_S384x18432_S1x384x18432 := by
  have e : Pipeline.withArrays spec0 c (V0 m c) (fun w => (dats m 0 c).arrAt w cfg0.N) (Proc.devRef .tc main_v3) = G m c :=
    (Pipeline.withArrays_arr spec0 launch0.win.arr_inj c (V0 m c) (fun w => (dats m 0 c).arrAt w cfg0.N) 2).trans (final2 m c)
  unfold Pipeline.afterTail₀
  show StableHlo.after (List.flatten [hostOps1]) _ (Proc.devRef .tc main_v4) = _
  after_results
  exact congrArg (fun z => shapeCast S1x384x18432 z shapeCasts_S384x18432_S1x384x18432) e

/-! ## The run -/

/-- Every argument array is as launched after the run. -/
theorem kept_args (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).2 main_arg0 (Pipeline.mem_restRefs_of main_arg0 (by decide) (by decide))).trans ((W_keep m (dats m) c main_arg0 (by decide) (by decide)).trans (V_main_arg0 m c)),
   ((h c).2 main_arg1 (Pipeline.mem_restRefs_of main_arg1 (by decide) (by decide))).trans ((W_keep m (dats m) c main_arg1 (by decide) (by decide)).trans (V_main_arg1 m c)),
   ((h c).2 main_arg2 (Pipeline.mem_restRefs_of main_arg2 (by decide) (by decide))).trans ((W_keep m (dats m) c main_arg2 (by decide) (by decide)).trans (V_main_arg2 m c)),
   ((h c).2 main_arg3 (Pipeline.mem_restRefs_of main_arg3 (by decide) (by decide))).trans ((W_keep m (dats m) c main_arg3 (by decide) (by decide)).trans (V_main_arg3 m c))⟩

/-- The run ends with the arguments unchanged and every semaphore counter at zero. -/
theorem frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨kept_args m r h.1, h.2⟩) (run_main m ρ)

/-- The run with the result named, the arguments unchanged. -/
theorem run : θ_run defs (onTc (τ := τ) (main (F := F))) ⟨m, fun _ => 0, ρ⟩ fun r => ∀ c : Dev nD,
      r.2.mem ((c : Thread nD τ).loc main_v4) = shapeCast S1x384x18432 (G m c) shapeCasts_S384x18432_S1x384x18432
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h.1 c).2 main_v4 (Pipeline.mem_restRefs_of main_v4 (by decide) (by decide))).trans (W_main_v4 m c), kept_args m r h.1 c⟩)
    (run_main m ρ)

end Cert.KernelIdeal.Hand

end
-- ==== Proof.KI.Equation.lean ====
/-
  The equation of the algebraic claim, at exact arithmetic: an element of the kernel's result and the same element of the
  reference are one expression, the sum of products over the contracted axis times the row's scale times the column's.
-/
module

public import proofs.«01_k».proof.Proof.KI.Value
public import proofs.«01_k».proof.Proof.Gen.ReferenceIdeal.Value
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- One element of the result: row `r` of the activations against row `n` of `w`, times the two scales. -/
def elem (x : Vec Ideal S1x384x4608 .fp8e4m3) (xs : Vec Ideal S1x384x1 .f32) (w : Vec Ideal S18432x4608 .fp8e4m3) (ws : Vec Ideal S18432 .f32)
    (r : Fin 384) (n : Fin 18432) : EReal :=
  (∑ k : Fin 4608, (x (ix3 0 r k) : EReal) * (w (ix2 n k) : EReal)) * (xs (ix3 0 r 0) : EReal) * (ws (ix1 n) : EReal)

/-- The reference, element by element. -/
theorem ref_apply (x : Vec Ideal S1x384x4608 .fp8e4m3) (xs : Vec Ideal S1x384x1 .f32) (w : Vec Ideal S18432x4608 .fp8e4m3) (ws : Vec Ideal S18432 .f32)
    (r : Fin 384) (n : Fin 18432) :
    (Cert.ReferenceIdeal.Value.G4 (F := Ideal) x xs w ws (ix3 0 r n) : EReal) = elem x xs w ws r n := by
  unfold elem
  pointwise [Cert.ReferenceIdeal.Value.G4, Cert.ReferenceIdeal.Gen.k0_pay1]

/-- The row scales spread over the lanes: every lane holds the row's. -/
theorem spread_apply (v : Vec Ideal S1x384 .f32) (r : Fin 384) (l : Fin 128) : (k0_pay1 (F := Ideal) v) (ix2 r l) = v (ix2 0 r) := by
  pointwise [k0_pay1]

/-- Sixteen copies of the spread scales side by side, at a row and a column: the copy's own lane. -/
theorem tiled_apply (s : Vec Ideal S384x128 .f32)
    (h : Shape.Concatenates (([⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩] : List ((S : Shape) × (S.Idx → Elt Ideal .f32))).map (·.1)) S384x2048 1) (r : Fin 384) (q : Fin 2048) :
    concatenate S384x2048 1 [⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩, ⟨S384x128, s⟩] h (ix2 r q) = s (ix2 r ⟨q.val % 128, by omega⟩) :=
  concatenate_ofFn_apply (t := S384x2048) (s₁ := S384x128) 1 (N := 16) (fun _ => s) h rfl 128 rfl (ix2 r q) ⟨q.val / 128, by omega⟩ rfl
    (ix2 r ⟨q.val % 128, by omega⟩) rfl (fun b hb => by match b with | ⟨0, _⟩ => rfl | ⟨1, _⟩ => exact absurd rfl hb)

/-- A block's element, from the block's own operands. -/
theorem outv_apply (X : Vec Ideal S384x4608 .fp8e4m3) (w : Vec Ideal S2048x4608 .fp8e4m3) (v : Vec Ideal S1x384 .f32) (ws : Vec Ideal S1x2048 .f32)
    (r : Fin 384) (q : Fin 2048) :
    (outv (F := Ideal) X w (k0_pay1 v) ws (ix2 r q) : EReal)
      = (∑ k : Fin 4608, (X (ix2 r k) : EReal) * (w (ix2 q k) : EReal)) * (v (ix2 0 r) : EReal) * (ws (ix2 0 q) : EReal) := by
  generalize hs : k0_pay1 v = s
  have hv : v (ix2 0 r) = s (ix2 r ⟨q.val % 128, by omega⟩) := by rw [← hs, spread_apply]
  rw [hv, ← tiled_apply s Facts₀.concatenates_S384x128_S384x128_S384x128_S384x128_S384x128_S384x128_S384x128_S384x128_S384x128_S384x128_S384x128_S384x128_S384x128_S384x128_S384x128_S384x128_S384x2048_d1 r q]
  unfold outv k0_pay2
  generalize concatenate S384x2048 1 _ _ = T
  pointwise []

/-- The four reshapes of the host lines, element by element: each only adds or drops unit axes. -/
theorem cast_x (x : Vec Ideal S1x384x4608 .fp8e4m3) (r : Fin 384) (k : Fin 4608) :
    shapeCast S384x4608 x shapeCasts_S1x384x4608_S384x4608 (ix2 r k) = x (ix3 0 r k) := by pointwise []
theorem cast_xs (x : Vec Ideal S1x384x1 .f32) (r : Fin 384) :
    shapeCast S1x384 x shapeCasts_S1x384x1_S1x384 (ix2 0 r) = x (ix3 0 r 0) := by pointwise []
theorem cast_ws (x : Vec Ideal S18432 .f32) (n : Fin 18432) :
    shapeCast S1x18432 x shapeCasts_S18432_S1x18432 (ix2 0 n) = x (ix1 n) := by pointwise []
theorem cast_out (g : Vec Ideal S384x18432 .bf16) (r : Fin 384) (n : Fin 18432) :
    shapeCast S1x384x18432 g shapeCasts_S384x18432_S1x384x18432 (ix3 0 r n) = g (ix2 r n) := by pointwise []

variable (m : (ℓ : Loc nD τ sig) → Buf (Elt Ideal) ℓ)

/-- The kernel's output array, element by element, from the arguments as launched. -/
theorem G_apply (c : Dev nD) (r : Fin 384) (n : Fin 18432) :
    (Gat m c r n : EReal) = elem (m ((c : Thread nD τ).loc main_arg0)) (m ((c : Thread nD τ).loc main_arg1))
      (m ((c : Thread nD τ).loc main_arg2)) (m ((c : Thread nD τ).loc main_arg3)) r n := by
  unfold Gat outAt
  refine (outv_apply _ _ _ _ r (colIn n)).trans ?_
  have hX : ∀ k : Fin 4608, acts m c (ix2 r k) = (m ((c : Thread nD τ).loc main_arg0) : Vec Ideal S1x384x4608 .fp8e4m3) (ix3 0 r k) := fun k =>
    (congrFun ((acts_val m c).trans (V_main_v2 m c)) (ix2 r k)).trans (cast_x _ r k)
  have hw : ∀ k : Fin 4608, wblk c (V m c main_arg2) (Ring.bk 9 (blkOf n).val) (ix2 (colIn n) k)
      = (m ((c : Thread nD τ).loc main_arg2) : Vec Ideal S18432x4608 .fp8e4m3) (ix2 n k) := fun k =>
    (wblk_apply c (V m c main_arg2) (blkOf n) (colIn n) k).trans (by rw [col_split]; exact congrFun (V_main_arg2 m c) _)
  have hs : rowScale m c (ix2 0 r) = (m ((c : Thread nD τ).loc main_arg1) : Vec Ideal S1x384x1 .f32) (ix3 0 r 0) :=
    (congrFun ((rowScale_val m c).trans (V_main_v0 m c)) _).trans (cast_xs _ r)
  have hq : (iblk m c 1 (blkOf n) : Vec Ideal S1x2048 .f32) (ix2 0 (colIn n)) = (m ((c : Thread nD τ).loc main_arg3) : Vec Ideal S18432 .f32) (ix1 n) :=
    (colScale_apply m c (blkOf n) 0 (colIn n)).trans (by rw [col_split]; exact (congrFun (V_main_v1 m c) _).trans (cast_ws _ n))
  unfold elem
  exact congrArg₂ (· * ·) (congrArg₂ (· * ·) (Finset.sum_congr rfl fun k _ => congrArg₂ (· * ·) (hX k) (hw k)) hs) hq

/-- The kernel's result is the reference's, as functions of the arguments. -/
theorem result_eq (c : Dev nD) : shapeCast S1x384x18432 (G m c) shapeCasts_S384x18432_S1x384x18432
    = Cert.ReferenceIdeal.Value.G4 (F := Ideal) (m ((c : Thread nD τ).loc main_arg0)) (m ((c : Thread nD τ).loc main_arg1))
      (m ((c : Thread nD τ).loc main_arg2)) (m ((c : Thread nD τ).loc main_arg3)) := by
  funext i
  obtain ⟨z, r, n, rfl⟩ : ∃ (z : Fin 1) (r : Fin 384) (n : Fin 18432), i = ix3 z r n := ⟨i 0, i 1, i 2, eq_ix3 i⟩
  obtain rfl : z = 0 := Subsingleton.elim _ _
  refine Eq.trans ?_ ((G_apply m c r n).trans (ref_apply _ _ _ _ r n).symm)
  exact cast_out (G m c) r n

end Cert.KernelIdeal.Hand

end
-- ==== Proof.KI.SameProgram.lean ====
/-
  The kernel and the idealized kernel are one program: nothing was rewritten, so the two printed texts agree name by name,
  and the run proved of the idealized kernel at any float semantics is also the kernel's run on bit patterns.
-/
module

public import proofs.«01_k».proof.Defs
public import proofs.«01_k».proof.Proof.Gen.Kernel
public import proofs.«01_k».proof.Proof.KI.Value

@[expose] public section

noncomputable section

namespace Cert.KernelIdeal.Hand

open Idealize.ShloMosaic Idealize.ShloMosaic.TcCoe Idealize.SL.Sem

variable {F : FTy → Type} [FloatOps F]

/-- The kernels' bodies, the two body tables and the two @mains agree. -/
theorem body_same : @Cert.Kernel.cc0__linear_body F _ _ = @Cert.KernelIdeal.cc0__linear_body F _ _ := rfl
theorem defs₀_same : Cert.Kernel.defs₀ (F := F) = Cert.KernelIdeal.defs₀ (F := F) := by
  funext pr ℓ a
  match pr, ℓ, a with
  | .tc, ⟨0, _⟩, (_, _) => rfl
  | .scScalar _, _, _ => rfl
  | .scVector _ _, _, _ => rfl
theorem defs_same : Cert.Kernel.defs (F := F) = Cert.KernelIdeal.defs (F := F) :=
  congrArg (Pipeline.defs Cert.KernelIdeal.pcfgs) defs₀_same
theorem main_same : Cert.Kernel.main (F := F) = Cert.KernelIdeal.main (F := F) := rfl

/-- The kernel runs to the end on bit patterns, its arguments unchanged and every semaphore counter at zero. -/
theorem kernel_frame : Cert.quiescent_Kernel := fun m ρ _ =>
  Eq.mpr (congrArg (fun d => θ_run d (onTc (τ := Cert.KernelIdeal.τ) (Cert.KernelIdeal.main (F := Bits))) ⟨m, fun _ => 0, ρ⟩ _) (defs_same (F := Bits)))
    (frame (F := Bits) m ρ)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KI.Runs
public import proofs.«01_k».proof.Proof.KI.Loads
public import proofs.«01_k».proof.Proof.KI.RunA
public import proofs.«01_k».proof.Proof.KI.RunB
public import proofs.«01_k».proof.Proof.KI.RunC
public import proofs.«01_k».proof.Proof.KI.Frame
public import proofs.«01_k».proof.Proof.KI.Value
public import proofs.«01_k».proof.Proof.KI.Equation
public import proofs.«01_k».proof.Proof.KI.SameProgram
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Hand.kernel_frame,
  fun m ρ _ => Cert.KernelIdeal.Hand.frame m ρ,
  fun m ρ _ => Cert.ReferenceIdeal.Gen.frame m ρ,
  trivial,
  fun m ρ m' ρ' _ hargs => ⟨fun c => Cert.ReferenceIdeal.Value.G4 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono
      (fun r h c => ⟨(h c).1.trans (Cert.KernelIdeal.Hand.result_eq m c), (h c).2⟩) (Cert.KernelIdeal.Hand.run m ρ),
    (θ_run Cert.ReferenceIdeal.defs _ _).mono
      (fun r h c => ⟨(h c).1.trans (by rw [(hargs c).1, (hargs c).2.1, (hargs c).2.2.1, (hargs c).2.2.2]), (h c).2⟩)
      (Cert.ReferenceIdeal.Value.run m' ρ')⟩⟩

end Cert.Proof

end
